-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x2048 : Shape := ⟨2, ![32, 2048]⟩
abbrev S16384x2048 : Shape := ⟨2, ![16384, 2048]⟩
abbrev S16384 : Shape := ⟨1, ![16384]⟩
abbrev S2048x16384 : Shape := ⟨2, ![2048, 16384]⟩
abbrev S2048 : Shape := ⟨1, ![2048]⟩
abbrev S1x16384 : Shape := ⟨2, ![1, 16384]⟩
abbrev S32x16384 : Shape := ⟨2, ![32, 16384]⟩
abbrev S1024x2048 : Shape := ⟨2, ![1024, 2048]⟩
abbrev S1x1024 : Shape := ⟨2, ![1, 1024]⟩
abbrev S32x1024 : Shape := ⟨2, ![32, 1024]⟩
abbrev S1024 : Shape := ⟨1, ![1024]⟩
abbrev S32 : Shape := ⟨1, ![32]⟩
abbrev S32x1 : Shape := ⟨2, ![32, 1]⟩
abbrev S1x2048 : Shape := ⟨2, ![1, 2048]⟩
abbrev S2048x1024 : Shape := ⟨2, ![2048, 1024]⟩

abbrev nBuf : Space → Nat
  | .hbm => 10
  | .vmem => 16
  | .smem => 0
  | _ => 0

abbrev bufTy : (tb : Table) → Fin (tcTables nBuf tb) → BufTy
  | .hbm, ⟨0, _⟩ => ⟨S32x2048, .f32⟩
  | .hbm, ⟨1, _⟩ => ⟨S16384x2048, .f32⟩
  | .hbm, ⟨2, _⟩ => ⟨S16384, .f32⟩
  | .hbm, ⟨3, _⟩ => ⟨S2048x16384, .f32⟩
  | .hbm, ⟨4, _⟩ => ⟨S2048, .f32⟩
  | .hbm, ⟨5, _⟩ => ⟨S1x16384, .f32⟩
  | .hbm, ⟨6, _⟩ => ⟨S32x16384, .f32⟩
  | .hbm, ⟨7, _⟩ => ⟨S32x16384, .f32⟩
  | .hbm, ⟨8, _⟩ => ⟨S1x2048, .f32⟩
  | .hbm, ⟨9, _⟩ => ⟨S32x2048, .f32⟩
  | .local _ .vmem, ⟨0, _⟩ => ⟨S32x2048, .f32⟩
  | .local _ .vmem, ⟨1, _⟩ => ⟨S1024x2048, .f32⟩
  | .local _ .vmem, ⟨2, _⟩ => ⟨S1024x2048, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | .local _ .vmem, ⟨7, _⟩ => ⟨S32x16384, .f32⟩
  | .local _ .vmem, ⟨8, _⟩ => ⟨S32x16384, .f32⟩
  | .local _ .vmem, ⟨9, _⟩ => ⟨S32x16384, .f32⟩
  | .local _ .vmem, ⟨10, _⟩ => ⟨S32x1024, .f32⟩
  | .local _ .vmem, ⟨11, _⟩ => ⟨S32x1024, .f32⟩
  | .local _ .vmem, ⟨12, _⟩ => ⟨S2048x1024, .f32⟩
  | .local _ .vmem, ⟨13, _⟩ => ⟨S2048x1024, .f32⟩
  | .local _ .vmem, ⟨14, _⟩ => ⟨S1x2048, .f32⟩
  | .local _ .vmem, ⟨15, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

@[reducible] def k1_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
abbrev stage1_0 : Fin 1 → Memref sig .tc .vmem S32x16384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32x16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== ReferenceIdeal.lean ====
abbrev S32x2048 : Shape := ⟨2, ![32, 2048]⟩
abbrev S16384x2048 : Shape := ⟨2, ![16384, 2048]⟩
abbrev S16384 : Shape := ⟨1, ![16384]⟩
abbrev S2048x16384 : Shape := ⟨2, ![2048, 16384]⟩
abbrev S2048 : Shape := ⟨1, ![2048]⟩
abbrev S32x16384 : Shape := ⟨2, ![32, 16384]⟩
abbrev S1x16384 : Shape := ⟨2, ![1, 16384]⟩
abbrev S_ : Shape := ⟨0, ![]⟩
abbrev S32x32 : Shape := ⟨2, ![32, 32]⟩
abbrev S32 : Shape := ⟨1, ![32]⟩
abbrev S32x1 : Shape := ⟨2, ![32, 1]⟩
abbrev S32x32x1 : Shape := ⟨3, ![32, 32, 1]⟩
abbrev S32x32x2 : Shape := ⟨3, ![32, 32, 2]⟩
abbrev S1x2048 : Shape := ⟨2, ![1, 2048]⟩

abbrev nBuf : Space → Nat
  | .hbm => 46
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S16384x2048, .f32⟩
  | .hbm, ⟨2, _⟩ => ⟨S16384, .f32⟩
  | .hbm, ⟨3, _⟩ => ⟨S2048x16384, .f32⟩
  | .hbm, ⟨4, _⟩ => ⟨S2048, .f32⟩
  | .hbm, ⟨5, _⟩ => ⟨S2048x16384, .f32⟩
  | .hbm, ⟨6, _⟩ => ⟨S32x16384, .f32⟩
  | .hbm, ⟨7, _⟩ => ⟨S1x16384, .f32⟩
  | .hbm, ⟨8, _⟩ => ⟨S32x16384, .f32⟩
  | .hbm, ⟨9, _⟩ => ⟨S32x16384, .f32⟩
  | .hbm, ⟨10, _⟩ => ⟨S_, .f32⟩
  | .hbm, ⟨11, _⟩ => ⟨S32x16384, .f32⟩
  | .hbm, ⟨12, _⟩ => ⟨S32x16384, .f32⟩
  | .hbm, ⟨13, _⟩ => ⟨S32x32, .f32⟩
  | .hbm, ⟨14, _⟩ => ⟨S32x32, .i32⟩
  | .hbm, ⟨15, _⟩ => ⟨S32, .i32⟩
  | .hbm, ⟨16, _⟩ => ⟨S32x1, .i32⟩
  | .hbm, ⟨17, _⟩ => ⟨S_, .f32⟩
  | .hbm, ⟨18, _⟩ => ⟨S32x16384, .f32⟩
  | .hbm, ⟨19, _⟩ => ⟨S_, .i32⟩
  | .hbm, ⟨20, _⟩ => ⟨S32x1, .i32⟩
  | .hbm, ⟨21, _⟩ => ⟨S32x1, .i1⟩
  | .hbm, ⟨22, _⟩ => ⟨S_, .i32⟩
  | .hbm, ⟨23, _⟩ => ⟨S32x1, .i32⟩
  | .hbm, ⟨24, _⟩ => ⟨S32x1, .i32⟩
  | .hbm, ⟨25, _⟩ => ⟨S32x1, .i32⟩
  | .hbm, ⟨26, _⟩ => ⟨S_, .i32⟩
  | .hbm, ⟨27, _⟩ => ⟨S32x32, .i32⟩
  | .hbm, ⟨28, _⟩ => ⟨S32x32, .i1⟩
  | .hbm, ⟨29, _⟩ => ⟨S_, .i32⟩
  | .hbm, ⟨30, _⟩ => ⟨S32x32, .i32⟩
  | .hbm, ⟨31, _⟩ => ⟨S32x32, .i32⟩
  | .hbm, ⟨32, _⟩ => ⟨S32x32, .i32⟩
  | .hbm, ⟨33, _⟩ => ⟨S32x32, .i32⟩
  | .hbm, ⟨34, _⟩ => ⟨S32x32x1, .i32⟩
  | .hbm, ⟨35, _⟩ => ⟨S32x32x1, .i32⟩
  | .hbm, ⟨36, _⟩ => ⟨S32x32x2, .i32⟩
  | .hbm, ⟨37, _⟩ => ⟨S_, .f32⟩
  | .hbm, ⟨38, _⟩ => ⟨S32x32, .f32⟩
  | .hbm, ⟨39, _⟩ => ⟨S32x16384, .f32⟩
  | .hbm, ⟨40, _⟩ => ⟨S32x16384, .f32⟩
  | .hbm, ⟨41, _⟩ => ⟨S16384x2048, .f32⟩
  | .hbm, ⟨42, _⟩ => ⟨S32x2048, .f32⟩
  | .hbm, ⟨43, _⟩ => ⟨S1x2048, .f32⟩
  | .hbm, ⟨44, _⟩ => ⟨S32x2048, .f32⟩
  | .hbm, ⟨45, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_values : Ref sig .tc := ⟨.hbm, 13, rfl⟩
abbrev main_indices : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Proof.KernelRun.lean ====
/- The kernel program's run, with its two result arrays read back: the launch of `Gen.frame`, whose last thread state holds
   every array at `Gen.W5`, stated with the results beside the arguments. -/
module

public import proofs.«01_k».proof.Proof.Gen.KernelIdeal.Frame

@[expose] public section

noncomputable section

namespace Cert.KernelIdeal.Launched

open Cert.KernelIdeal Cert.KernelIdeal.Gen
open Idealize.ShloMosaic Idealize.ShloMosaic.TcCoe Idealize.ShloMosaic.Tactic
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are read off this statement, through plain definitions in their types
set_option backward.isDefEq.respectTransparency.types false in
/-- Every execution of the kernel program ends with the hidden activations and the reconstruction at the last boundary's
    contents `W5`, and with the five arguments as launched. -/
theorem run : θ_run defs (onTc (τ := τ) (main (F := F))) ⟨m, fun _ => 0, ρ⟩ (fun r => ∀ c : Dev nD,
      r.2.mem ((c.tc : Thread nD τ).loc main_v2) = W5 m ρ c (Proc.devRef .tc main_v2)
      ∧ r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v2 (by decide)), h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.Launched

end
-- ==== Proof.Select.lean ====
/- Selecting the greatest entries of a row, the two ways the programs do it: by rounds, each of which finds the first position
   of the row's maximum and puts minus infinity there; and by one stable sort, greatest first, whose first positions are taken.
   Both select the positions that fewer than `k` others stand ahead of. -/
module

public import Idealize.ShloMosaic.Lib.SortFacts
public import Idealize.ShloMosaic.Lib.PlanTiles.StableSort
public import Mathlib.Data.EReal.Basic

@[expose] public section

noncomputable section

namespace Cert.Select

open Idealize.ShloMosaic

section Order
variable {n : ℕ} {α : Type} [LinearOrder α] (x : Fin n → α)

/-- Position `a` is ahead of `b`: its entry is greater, or the two are equal and `a` comes first. -/
def Ahead (a b : Fin n) : Prop := x b < x a ∨ (x a = x b ∧ a < b)

/-- No position is ahead of itself. -/
theorem ahead_irrefl (a : Fin n) : ¬ Ahead x a a := by
  rintro (h | ⟨-, h⟩) <;> exact lt_irrefl _ h

/-- What is ahead of a position is ahead of all that the position is ahead of. -/
theorem ahead_trans {a b c : Fin n} (h₁ : Ahead x a b) (h₂ : Ahead x b c) : Ahead x a c := by
  rcases h₁ with h₁ | ⟨e₁, h₁⟩ <;> rcases h₂ with h₂ | ⟨e₂, h₂⟩
  · exact Or.inl (h₂.trans h₁)
  · exact Or.inl (e₂ ▸ h₁)
  · exact Or.inl (e₁ ▸ h₂)
  · exact Or.inr ⟨e₁.trans e₂, h₁.trans h₂⟩

/-- Two positions are not each ahead of the other. -/
theorem ahead_asymm {a b : Fin n} (h : Ahead x a b) : ¬ Ahead x b a :=
  fun h' => ahead_irrefl x a (ahead_trans x h h')

open Classical in
/-- How many positions are ahead of `c`. -/
def place (c : Fin n) : ℕ := (Finset.univ.filter fun a => Ahead x a c).card

/-- A position that is ahead of another has the lower place. -/
theorem place_lt {a b : Fin n} (h : Ahead x a b) : place x a < place x b := by
  classical
  unfold place
  refine Finset.card_lt_card ⟨fun c hc => ?_, fun hsub => ?_⟩
  · rw [Finset.mem_filter] at hc ⊢
    exact ⟨hc.1, ahead_trans x hc.2 h⟩
  · have := hsub (Finset.mem_filter.mpr ⟨Finset.mem_univ a, h⟩)
    exact ahead_irrefl x a (Finset.mem_filter.mp this).2

/-- How many entries are smaller than the one at `c`: a natural number that orders the positions as the entries do. -/
def height (c : Fin n) : ℕ := (Finset.univ.filter fun a => x a < x c).card

/-- Heights compare as the entries do. -/
theorem height_lt_iff (a b : Fin n) : height x a < height x b ↔ x a < x b := by
  have mono : ∀ a b, x a ≤ x b → height x a ≤ height x b := fun a b h =>
    Finset.card_le_card fun c hc => by
      rw [Finset.mem_filter] at hc ⊢; exact ⟨hc.1, hc.2.trans_le h⟩
  refine ⟨fun h => ?_, fun h => ?_⟩
  · by_contra hn
    exact absurd (mono b a (not_lt.mp hn)) (not_le.mpr h)
  · refine Finset.card_lt_card ⟨fun c hc => ?_, fun hsub => ?_⟩
    · rw [Finset.mem_filter] at hc ⊢; exact ⟨hc.1, hc.2.trans h⟩
    · have := hsub (Finset.mem_filter.mpr ⟨Finset.mem_univ a, h⟩)
      exact lt_irrefl _ (Finset.mem_filter.mp this).2

/-- The comparison the sort reads: `a` goes before `b` when its entry is greater. -/
def greater (a b : Fin n) : Bool := decide (x b < x a)

/-- In the sorted order the earlier position is ahead of the later one. -/
theorem sorted_ahead {i j : Fin n} (h : i < j) : Ahead x (sortedFrom (greater x) i) (sortedFrom (greater x) j) := by
  have hb : greater x = fun a b => decide (height x b < height x a) :=
    funext fun a => funext fun b => decide_eq_decide.mpr (height_lt_iff x b a).symm
  have hs := List.pairwise_iff_get.mp
    (PlanTiles.pairwise_stableSort_lex (height x) (· < ·) (List.finRange n) (List.pairwise_lt_finRange n))
  rw [← hb] at hs
  have := hs (i.cast (length_sortPositions n (greater x)).symm) (j.cast (length_sortPositions n (greater x)).symm) h
  rcases this with h1 | ⟨h1, h2⟩
  · exact Or.inl ((height_lt_iff x _ _).mp h1)
  · refine Or.inr ⟨le_antisymm (not_lt.mp fun hl => ?_) (not_lt.mp fun hl => ?_), h2⟩
    · exact absurd ((height_lt_iff x _ _).mpr hl) (by
        show ¬ height x (List.get _ _) < height x (List.get _ _); exact (lt_irrefl _ <| h1 ▸ ·))
    · exact absurd ((height_lt_iff x _ _).mpr hl) (by
        show ¬ height x (List.get _ _) < height x (List.get _ _); exact (lt_irrefl _ <| h1 ▸ ·))

/-- The sort puts at `i` the position that exactly `i` others are ahead of. -/
theorem place_sorted (i : Fin n) : place x (sortedFrom (greater x) i) = i.val := by
  classical
  unfold place
  have e : (Finset.univ.filter fun a => Ahead x a (sortedFrom (greater x) i))
      = (Finset.univ.filter fun j : Fin n => j < i).map ⟨_, sortedFrom_injective (greater x)⟩ := by
    ext a
    obtain ⟨j, rfl⟩ := sortedFrom_surjective (greater x) a
    simp only [Finset.mem_filter, Finset.mem_univ, true_and, Finset.mem_map, Function.Embedding.coeFn_mk]
    refine ⟨fun h => ⟨j, ?_, rfl⟩, ?_⟩
    · rcases lt_trichotomy j i with hl | rfl | hl
      · exact hl
      · exact absurd h (ahead_irrefl x _)
      · exact absurd (sorted_ahead x hl) (ahead_asymm x h)
    · rintro ⟨j', hj', e⟩
      rw [← e]; exact sorted_ahead x hj'
  rw [e, Finset.card_map]
  have : (Finset.univ.filter fun j : Fin n => j < i) = Finset.Iio i := by ext; simp
  rw [this, Fin.card_Iio]

/-- A position is among the first `k` sorted exactly when fewer than `k` positions are ahead of it. -/
theorem mem_sorted_iff (k : ℕ) (hk : k ≤ n) (c : Fin n) :
    (∃ i : Fin k, sortedFrom (greater x) (i.castLE hk) = c) ↔ place x c < k := by
  refine ⟨?_, fun h => ?_⟩
  · rintro ⟨i, rfl⟩
    rw [place_sorted]; exact i.isLt
  · obtain ⟨j, rfl⟩ := sortedFrom_surjective (greater x) c
    rw [place_sorted] at h
    exact ⟨⟨j.val, h⟩, rfl⟩

end Order

section Rounds
variable {n : ℕ} (x : Fin n → EReal)

/-- The row after `k` rounds: minus infinity at the positions that fewer than `k` others are ahead of. -/
def struck (k : ℕ) (c : Fin n) : EReal := if place x c < k then ⊥ else x c

/-- Before any round the row is as given. -/
theorem struck_zero : struck x 0 = x := funext fun c => if_neg (Nat.not_lt_zero _)

variable (hx : ∀ c, x c ≠ ⊥)
include hx

/-- After `k` rounds, minus infinity stands exactly at the positions struck. -/
theorem struck_eq_bot_iff (k : ℕ) (c : Fin n) : struck x k c = ⊥ ↔ place x c < k := by
  unfold struck
  split <;> simp_all

/-- The position that exactly `k` others are ahead of holds the maximum of what `k` rounds leave, and is the first that does. -/
theorem struck_max {k : ℕ} {p : Fin n} (hp : place x p = k) :
    struck x k p = x p ∧ (∀ c, struck x k c ≤ x p) ∧ ∀ c, struck x k c = x p → p ≤ c := by
  have back : ∀ c, k ≤ place x c → ¬ Ahead x c p := fun c hc h => by
    have := place_lt x h; omega
  refine ⟨if_neg (by omega), fun c => ?_, fun c hc => ?_⟩
  · by_cases h : place x c < k
    · rw [struck, if_pos h]; exact bot_le
    · rw [struck, if_neg h]
      exact not_lt.mp fun hl => back c (not_lt.mp h) (Or.inl hl)
  · by_cases h : place x c < k
    · rw [struck, if_pos h] at hc; exact absurd hc.symm (hx p)
    · rw [struck, if_neg h] at hc
      exact not_lt.mp fun hl => back c (not_lt.mp h) (Or.inr ⟨hc, hl⟩)

/-- A round that strikes the position with exactly `k` others ahead takes the row after `k` rounds to the row after `k + 1`. -/
theorem struck_succ {k : ℕ} {p : Fin n} (hp : place x p = k) (c : Fin n) :
    (if c = p then ⊥ else struck x k c) = struck x (k + 1) c := by
  have inj : place x c = k → c = p := fun hc => by
    by_contra hne
    rcases lt_trichotomy (x c) (x p) with h | h | h
    · have := place_lt x (Or.inl h : Ahead x p c); omega
    · rcases lt_or_gt_of_ne hne with hl | hl
      · have := place_lt x (Or.inr ⟨h, hl⟩ : Ahead x c p); omega
      · have := place_lt x (Or.inr ⟨h.symm, hl⟩ : Ahead x p c); omega
    · have := place_lt x (Or.inl h : Ahead x c p); omega
  unfold struck
  by_cases hc : c = p
  · subst hc; rw [if_pos rfl, if_pos (by omega)]
  · rw [if_neg hc]
    by_cases hk : place x c < k
    · rw [if_pos hk, if_pos (by omega)]
    · have : ¬ place x c < k + 1 := fun h => hc (inj (by omega))
      rw [if_neg hk, if_neg this]

omit hx in
/-- While rounds remain, there is a position that exactly `k` others are ahead of. -/
theorem exists_place {k : ℕ} (hk : k < n) : ∃ p : Fin n, place x p = k :=
  ⟨sortedFrom (greater x) ⟨k, hk⟩, place_sorted x _⟩

end Rounds

end Cert.Select

end
-- ==== Proof.Payload.lean ====
/- What each kernel body computes, read one entry at a time over the extended reals: the encoder's block is a matrix product
   plus a bias cut off below at zero; one round of the selection strikes out the first position of a row's maximum; the
   decoder's block adds a partial matrix product. -/
module

public import proofs.«01_k».proof.Proof.Gen.KernelIdeal.Frame
public import proofs.«01_k».proof.Proof.Select
public import Idealize.ShloMosaic.Lib.Pointwise

@[expose] public section

noncomputable section

namespace Cert.KernelIdeal.Payload

open Cert.KernelIdeal Cert.KernelIdeal.Gen
open Idealize.ShloMosaic Idealize.SL.Sem

/-! ## The words of the constants -/

/-- The word `0xFF800000` is minus infinity. -/
theorem word_bot : Ideal.ofBits .f32 0xFF800000#32 = ⊥ := by simp [Ideal.ofBits, Ideal.ieee]

/-- The word `0x3F800000` is one. -/
theorem word_one : Ideal.ofBits .f32 0x3F800000#32 = 1 := by
  simp [Ideal.ofBits, Ideal.ieee, -EReal.coe_mul]; norm_num

/-! ## The two dense layers, a block at a time -/

/-- An entry of the encoder's block: the product of a row of the input and a row of the weights, plus the bias, and no
    less than zero. -/
theorem encode_apply (a : Vec Ideal S32x2048 .f32) (b : Vec Ideal S1024x2048 .f32) (v : Vec Ideal S1x1024 .f32)
    (i : Fin 32) (j : Fin 1024) :
    k0_pay1 (F := Ideal) a b v (ix2 i j) = max ((∑ k : Fin 2048, a (ix2 i k) * b (ix2 j k)) + v (ix2 0 j)) 0 := by
  pointwise [k0_pay1]

/-- The decoder's first store in the output block: the bias, repeated along the rows. -/
theorem bias_apply (v : Vec Ideal S1x2048 .f32) (i : Fin 32) (d : Fin 2048) :
    k2_pay1 (F := Ideal) v (ix2 i d) = v (ix2 0 d) := by
  pointwise [k2_pay1]

/-- An entry after one step of the decoder: what it was, plus the partial product over the step's columns. -/
theorem decode_apply (a : Vec Ideal S32x2048 .f32) (h : Vec Ideal S32x1024 .f32) (w : Vec Ideal S2048x1024 .f32)
    (i : Fin 32) (d : Fin 2048) :
    k2_pay2 (F := Ideal) a h w (ix2 i d) = a (ix2 i d) + ∑ k : Fin 1024, h (ix2 i k) * w (ix2 d k) := by
  pointwise [k2_pay2]

/-! ## One round of the selection -/

/-- The greatest of finitely many extended reals, where one of them is known to be it. -/
theorem fold_max_of_le {n : ℕ} (f : Fin n → EReal) (p : Fin n) (h : ∀ c, f c ≤ f p) :
    Finset.fold max ⊥ f Finset.univ = f p :=
  le_antisymm ((Finset.fold_max_le _).2 ⟨bot_le, fun c _ => h c⟩)
    ((Finset.le_fold_max _).2 (Or.inr ⟨p, Finset.mem_univ p, le_rfl⟩))

/-- The signed value of a column number as a 32-bit word. -/
theorem toInt_col {c : ℕ} (h : c ≤ 16384) : (BitVec.ofNat 32 c).toInt = (c : ℤ) := by
  rw [BitVec.toInt_eq_toNat_of_lt] <;> rw [BitVec.toNat_ofNat] <;> omega

/-- The signed minimum of two words has the minimum of their signed values. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- The least column at which a condition holds, found as a signed minimum of words: the columns at which it fails count as
    16384. -/
theorem fold_minsi_first (P : Fin 16384 → Prop) [DecidablePred P] (p : Fin 16384) (hp : P p)
    (hmin : ∀ c, P c → p ≤ c) :
    Finset.fold IntOp.minsi (2147483647#32) (fun c : Fin 16384 => if P c then BitVec.ofNat 32 (c : ℕ) else 16384#32)
      Finset.univ = BitVec.ofNat 32 (p : ℕ) := by
  refine BitVec.eq_of_toInt_eq ?_
  rw [← Finset.fold_hom (op' := (min : ℤ → ℤ → ℤ)) toInt_minsi, toInt_col p.isLt.le]
  refine le_antisymm ((Finset.fold_min_le _).2 (Or.inr ⟨p, Finset.mem_univ p, ?_⟩)) ((Finset.le_fold_min _).2 ⟨?_, fun c _ => ?_⟩)
  · rw [if_pos hp, toInt_col p.isLt.le]
  · have : (2147483647#32).toInt = 2147483647 := by decide
    rw [this]; have := p.isLt; omega
  · by_cases h : P c
    · rw [if_pos h, toInt_col c.isLt.le]; exact_mod_cast hmin c h
    · have : (16384#32).toInt = 16384 := by decide
      rw [if_neg h, this]; have := p.isLt; omega

/-- Two column numbers are equal as 32-bit words only if they are equal. -/
theorem word_col_inj {a b : Fin 16384} : BitVec.ofNat 32 (a : ℕ) = BitVec.ofNat 32 (b : ℕ) ↔ a = b := by
  refine ⟨fun h => ?_, fun h => h ▸ rfl⟩
  have := congrArg BitVec.toInt h
  rw [toInt_col a.isLt.le, toInt_col b.isLt.le] at this
  exact Fin.ext (by exact_mod_cast this)

/-- One round, at a row whose maximum is first reached at `p`: the entry at `p` becomes minus infinity and the others stay. -/
theorem round_apply (w : Vec Ideal S32x16384 .f32) (i : Fin 32) (p : Fin 16384)
    (hmax : ∀ c, w (ix2 i c) ≤ w (ix2 i p)) (hfirst : ∀ c, w (ix2 i c) = w (ix2 i p) → p ≤ c) (c : Fin 16384) :
    k1_pay2 (F := Ideal) w (ix2 i c) = if c = p then (⊥ : EReal) else w (ix2 i c) := by
  pointwise [k1_pay2]
  rw [word_bot, fold_max_of_le (fun c => w (ix2 i c)) p hmax, fold_minsi_first (fun c => w (ix2 i c) = w (ix2 i p)) p rfl hfirst]
  by_cases h : c = p
  · subst h; simp [Scalar.select, IntOp.cmpi]
  · have hne : (BitVec.ofNat 32 (c : ℕ) == BitVec.ofNat 32 (p : ℕ)) = false :=
      beq_eq_false_iff_ne.2 fun e => h (word_col_inj.1 e)
    rw [if_neg h, IntOp.cmpi]
    rw [hne]; rfl

/-- The entries of one row of a block. -/
def row (x : Vec Ideal S32x16384 .f32) (i : Fin 32) : Fin 16384 → EReal := fun c => x (ix2 i c)

/-- After `k` rounds the `k` foremost positions of every row have been struck out. -/
theorem rounds_apply (x : Vec Ideal S32x16384 .f32) (hx : ∀ i c, row x i c ≠ ⊥) (k : ℕ) (hk : k ≤ 16384)
    (i : Fin 32) (c : Fin 16384) :
    (k1_pay2 (F := Ideal))^[k] x (ix2 i c) = Select.struck (row x i) k c := by
  induction k generalizing c with
  | zero => rw [Select.struck_zero]; rfl
  | succ k ih =>
    obtain ⟨p, hp⟩ := Select.exists_place (row x i) (k := k) (by omega)
    obtain ⟨-, hmax, hfirst⟩ := Select.struck_max (row x i) (hx i) hp
    have ih := ih (by omega)
    have hpe : Select.struck (row x i) k p = row x i p := (Select.struck_max (row x i) (hx i) hp).1
    rw [Function.iterate_succ_apply', round_apply _ i p (fun c => by rw [ih, ih, hpe]; exact hmax c)
      (fun c h => by rw [ih, ih, hpe] at h; exact hfirst c h), ih, Select.struck_succ (row x i) (hx i) hp]

/-- The last store keeps an entry where the work buffer reads minus infinity, and puts zero elsewhere. -/
theorem last_apply (w x : Vec Ideal S32x16384 .f32) (i : Fin 32) (c : Fin 16384) :
    k1_pay3 (F := Ideal) w x (ix2 i c) = if w (ix2 i c) = (⊥ : EReal) then x (ix2 i c) else 0 := by
  pointwise [k1_pay3]
  rw [word_bot]

/-- After 32 rounds: an entry whose place in its row is below 32 is kept, and any other becomes zero. -/
theorem kept_apply (x : Vec Ideal S32x16384 .f32) (hx : ∀ i c, row x i c ≠ ⊥) (i : Fin 32) (c : Fin 16384) :
    k1_pay3 ((k1_pay2 (F := Ideal))^[32] x) x (ix2 i c)
      = if Select.place (row x i) c < 32 then x (ix2 i c) else 0 := by
  rw [last_apply, rounds_apply x hx 32 (by omega)]
  exact if_congr (Select.struck_eq_bot_iff (row x i) (hx i) 32 c) rfl rfl

end Cert.KernelIdeal.Payload

end
-- ==== Proof.Plain.lean ====
/- The two results written out as plain formulas over the extended reals: what the kernel and the reference both compute. -/
module

public import proofs.«01_k».proof.Proof.Select
public import Idealize.ShloMosaic.Lib.Pointwise

@[expose] public section

noncomputable section

namespace Cert.Plain

open Idealize.ShloMosaic

/-- The activation of latent `j` on input row `i`: the product of the row with the latent's weights, plus the latent's bias,
    and no less than zero. -/
def activation (x : FVec Ideal ⟨2, ![32, 2048]⟩ .f32) (w : FVec Ideal ⟨2, ![16384, 2048]⟩ .f32)
    (b : FVec Ideal ⟨1, ![16384]⟩ .f32) (i : Fin 32) (j : Fin 16384) : EReal :=
  max ((∑ k : Fin 2048, x (ix2 i k) * w (ix2 j k)) + b (ix1 j)) 0

/-- An activation is at least zero, so never minus infinity. -/
theorem activation_ne_bot (x : FVec Ideal ⟨2, ![32, 2048]⟩ .f32) (w : FVec Ideal ⟨2, ![16384, 2048]⟩ .f32)
    (b : FVec Ideal ⟨1, ![16384]⟩ .f32) (i : Fin 32) (j : Fin 16384) : activation x w b i j ≠ ⊥ :=
  (lt_of_lt_of_le EReal.bot_lt_zero (le_max_right _ _)).ne'

/-- The hidden value of latent `j`: its activation if fewer than 32 latents of the row stand ahead of it, else zero. -/
def hidden (x : FVec Ideal ⟨2, ![32, 2048]⟩ .f32) (w : FVec Ideal ⟨2, ![16384, 2048]⟩ .f32)
    (b : FVec Ideal ⟨1, ![16384]⟩ .f32) (i : Fin 32) (j : Fin 16384) : EReal :=
  if Select.place (activation x w b i) j < 32 then activation x w b i j else 0

/-- The reconstruction of coordinate `d` of row `i`: the hidden values times the decoder's weights, plus its bias. -/
def reconstruction (h : Fin 32 → Fin 16384 → EReal) (v : FVec Ideal ⟨2, ![2048, 16384]⟩ .f32)
    (e : FVec Ideal ⟨1, ![2048]⟩ .f32) (i : Fin 32) (d : Fin 2048) : EReal :=
  (∑ j : Fin 16384, h i j * v (ix2 d j)) + e (ix1 d)

end Cert.Plain

end
-- ==== Proof.Encode.lean ====
/- The first kernel call, read: the array it leaves holds the activations. Each of the 16 steps computes 1024 columns of it
   from the whole input, 1024 rows of the weights and 1024 entries of the bias. -/
module

public import proofs.«01_k».proof.Proof.Payload
public import proofs.«01_k».proof.Proof.Plain
public import Idealize.ShloMosaic.Lib.Pipeline.Value
public import Idealize.ShloMosaic.Lib.StableHlo.Run

@[expose] public section

noncomputable section

namespace Cert.KernelIdeal.Encode

open Cert.KernelIdeal Cert.KernelIdeal.Gen
open Idealize.ShloMosaic Idealize.ShloMosaic.TcCoe Idealize.SL Idealize.SL.Sem
open Idealize.ShloMosaic.Pipeline (Dat)

/-- The two zero offsets of a whole-buffer access. -/
theorem offs : (![0, 0] : Fin 2 → Nat) = fun _ => 0 := funext fun a => by fin_cases a <;> rfl

/-- Which block of its array each window holds at step `t`: the input always the whole, the weights the `t`-th group of rows,
    the bias and the output the `t`-th group of columns. -/
theorem index_facts : ∀ t : Fin cfg0.N, (win0_0.index t 0 = 0 ∧ win0_0.index t 1 = 0) ∧ (win0_1.index t 0 = t.val ∧ win0_1.index t 1 = 0)
    ∧ (win0_2.index t 0 = 0 ∧ win0_2.index t 1 = t.val) ∧ (win0_3.index t 0 = 0 ∧ win0_3.index t 1 = t.val) := by
  decide +kernel

variable (V : (c : Dev nD) → (b : Ref sig .tc) → Buf (Elt Ideal) ((c : Thread nD τ).loc b))

/-- The call makes 16 steps. -/
theorem steps (t : Fin cfg0.N) : t.val < 16 := Nat.lt_of_lt_of_eq t.isLt N_0

/-- The column of the array that column `j` of step `t`'s block is. -/
def col (t : Fin cfg0.N) (j : Fin 1024) : Fin 16384 := ⟨1024 * t.val + j.val, by have := steps t; omega⟩

/-- The block of the input every step reads: the whole input. -/
theorem input_block (c : Dev nD) (t : Fin cfg0.N) (i : Fin 32) (k : Fin 2048) :
    iblk0 V c 0 t (ix2 i k) = V c main_arg0 (ix2 i k) := by
  obtain ⟨⟨h0, h1⟩, -⟩ := index_facts t
  unfold iblk0
  rw [View.read_apply]
  show V c main_arg0 _ = V c main_arg0 _
  congr 1; funext a; apply Fin.ext
  match a with
  | ⟨0, _⟩ => show win0_0.index t 0 * 32 + 1 * i.val = i.val; rw [h0]; omega
  | ⟨1, _⟩ => show win0_0.index t 1 * 2048 + 1 * k.val = k.val; rw [h1]; omega

/-- The block of weights a step reads: the rows of its 1024 latents. -/
theorem weight_block (c : Dev nD) (t : Fin cfg0.N) (j : Fin 1024) (k : Fin 2048) :
    iblk0 V c 1 t (ix2 j k) = V c main_arg1 (ix2 (col t j) k) := by
  obtain ⟨-, ⟨h0, h1⟩, -⟩ := index_facts t
  unfold iblk0
  rw [View.read_apply]
  show V c main_arg1 _ = V c main_arg1 _
  congr 1; funext a; apply Fin.ext
  match a with
  | ⟨0, _⟩ => show win0_1.index t 0 * 1024 + 1 * j.val = 1024 * t.val + j.val; rw [h0]; omega
  | ⟨1, _⟩ => show win0_1.index t 1 * 2048 + 1 * k.val = k.val; rw [h1]; omega

/-- The block of the bias a step reads: the entries of its 1024 latents. -/
theorem bias_block (c : Dev nD) (t : Fin cfg0.N) (j : Fin 1024) :
    iblk0 V c 2 t (ix2 0 j) = V c main_v0 (ix2 0 (col t j)) := by
  obtain ⟨-, -, ⟨h0, h1⟩, -⟩ := index_facts t
  unfold iblk0
  rw [View.read_apply]
  show V c main_v0 _ = V c main_v0 _
  congr 1; funext a; apply Fin.ext
  match a with
  | ⟨0, _⟩ => show win0_2.index t 0 * 1 + 1 * 0 = 0; rw [h0]
  | ⟨1, _⟩ => show win0_2.index t 1 * 1024 + 1 * j.val = 1024 * t.val + j.val; rw [h1]; omega

/-- What the array holds at the end, from what the call finds in its three inputs. -/
def acts (x : FVec Ideal S32x2048 .f32) (w : FVec Ideal S16384x2048 .f32) (b : FVec Ideal S1x16384 .f32) :
    FVec Ideal S32x16384 .f32 :=
  fun q => max ((∑ k : Fin 2048, x (ix2 (q 0) k) * w (ix2 (q 1) k)) + b (ix2 0 (q 1))) 0

/-- What one step leaves in the output's buffer. -/
theorem step_apply (c : Dev nD) (t : Fin cfg0.N) (i : Fin 32) (j : Fin 1024) :
    out0_3 (iblk0 V c 0 t) (iblk0 V c 1 t) (iblk0 V c 2 t) (ix2 i j)
      = acts (V c main_arg0) (V c main_arg1) (V c main_v0) (ix2 i (col t j)) := by
  unfold out0_3
  rw [View.canon_unit_zero offs, View.ld_unit_zero (S := S32x2048) offs, View.ld_unit_zero (S := S1024x2048) offs,
    View.ld_unit_zero (S := S1x1024) offs]
  show k0_pay1 (F := Ideal) (iblk0 V c 0 t) (iblk0 V c 1 t) (iblk0 V c 2 t) (ix2 i j) = _
  rw [Payload.encode_apply, bias_block]
  simp only [input_block, weight_block]
  rfl

/-- Every write-back writes its block of that array. -/
theorem flushed_eq (c : Dev nD) (t : Fin cfg0.N) :
    (dat0 V c).flushed 3 t
      = ((cfg0.win 3).blk t).view.read (Elt Ideal) (acts (V c main_arg0) (V c main_arg1) (V c main_v0)) := by
  obtain ⟨-, -, -, ⟨h0, h1⟩⟩ := index_facts t
  show (cfg0.win 3).cut (grid0.coords t) ((dat0 V c).after 3 t) = _
  rw [after0_3]
  funext q
  obtain ⟨i, j, rfl⟩ : ∃ (i : Fin 32) (j : Fin 1024), q = ix2 i j := ⟨q 0, q 1, eq_ix2 q⟩
  refine (step_apply V c t i j).trans ?_
  rw [View.read_apply]
  show acts _ _ _ _ = acts _ _ _ _
  congr 1; funext a; apply Fin.ext
  match a with
  | ⟨0, _⟩ => show i.val = win0_3.index t 0 * 32 + 1 * i.val; rw [h0]; omega
  | ⟨1, _⟩ => show 1024 * t.val + j.val = win0_3.index t 1 * 1024 + 1 * j.val; rw [h1]; omega

/-- The call leaves the array at the activations. -/
theorem array_eq (c : Dev nD) :
    (dat0 V c).arrAt 3 cfg0.N = acts (V c main_arg0) (V c main_arg1) (V c main_v0) :=
  (dat0 V c).arrAt_eq_of_cover 3 _ (fun t _ => flushed_eq V c t) fun q => by
    have q0 : (q 0 : Nat) < 32 := (q 0).isLt
    have q1 : (q 1 : Nat) < 16384 := (q 1).isLt
    let t : Fin cfg0.N := ⟨(q 1 : Nat) / 1024, Nat.lt_of_lt_of_eq (by omega) N_0.symm⟩
    refine ⟨t, flush0_3 t, ?_⟩
    obtain ⟨-, -, -, ⟨h0, h1⟩⟩ := index_facts t
    show q ∈ ((View.whole main_v1).slice (win0_3.rect t)).set
    rw [View.set_slice_whole, Rect.mem_set_unit]
    intro a
    match a with
    | ⟨0, _⟩ => show win0_3.index t 0 * 32 ≤ (q 0 : Nat) ∧ (q 0 : Nat) < win0_3.index t 0 * 32 + 32; rw [h0]; omega
    | ⟨1, _⟩ => show win0_3.index t 1 * 1024 ≤ (q 1 : Nat) ∧ (q 1 : Nat) < win0_3.index t 1 * 1024 + 1024
                rw [h1]; show (q 1 : Nat) / 1024 * 1024 ≤ _ ∧ _ < (q 1 : Nat) / 1024 * 1024 + 1024; omega

end Cert.KernelIdeal.Encode

end
-- ==== Proof.Rounds.lean ====
/- The second kernel call, opened: its one step copies the activations to a work buffer, runs 32 rounds of the selection on
   it, and stores the activations where the work buffer has ended at minus infinity. -/
module

public import proofs.«01_k».proof.Proof.Gen.KernelIdeal.Frame
public import Idealize.ShloMosaic.Lib.Pipeline.Value

@[expose] public section

noncomputable section

namespace Cert.KernelIdeal.Rounds

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]

/-- The two zero offsets of a whole-buffer access. -/
theorem offs : (![0, 0] : Fin 2 → Nat) = fun _ => 0 := funext fun a => by fin_cases a <;> rfl

/-- A buffer whose last store wrote the whole of it reads that store's value. -/
theorem read_last {arg : Memref sig .tc .vmem S32x16384 .f32} (f : BufTy.Contents (Elt F) arg.view.ty)
    (w : Vec F S32x16384 .f32) (ps : List (View.Piece (Elt F) S32x16384 .f32)) :
    arg.view.read (Elt F) (arg.view.writes (Elt F) f
        ((⟨Rect.unit (s := S32x16384) ![0, 0] S32x16384.size inb_S32x16384_S32x16384_0_0, w⟩ :
          View.Piece (Elt F) S32x16384 .f32) :: ps)) = w := by
  rw [View.read_writes_eq_canon _ _ _ fun y => ⟨_, List.mem_cons_self, View.mem_set_unit_zero offs inb_S32x16384_S32x16384_0_0 y⟩,
    View.canon_cons_unit_zero (S := S32x16384) offs]

/-- One round stores one block: the selection step of what the round finds in the work buffer. -/
theorem trip_pieces (𝒱 : Variants) (c : Dev nD) (bd : Option 𝒱.V)
    (arg0 : Memref sig .tc .vmem S32x16384 .f32) (harg0 : arg0.IsWhole)
    (arg1 : Memref sig .tc .vmem S32x16384 .f32) (harg1 : arg1.IsWhole)
    (arg2 : Memref sig .tc .vmem S32x16384 .f32) (harg2 : arg2.IsWhole) (k : Fin k1_t1_loop.trips)
    (f : BufTy.Contents (Elt F) arg2.view.ty) :
    tripL_k1_t1 (F := F) 𝒱 c bd arg0 harg0 arg1 harg1 arg2 harg2 k f
      = [⟨Rect.unit (s := S32x16384) ![0, 0] S32x16384.size inb_S32x16384_S32x16384_0_0,
          k1_pay2 (arg2.view.read (Elt F) f)⟩] := by
  unfold tripL_k1_t1 trip_k1_t1
  dsimp only
  simp only [View.readAt_eq_ld, View.ld_unit_zero (S := S32x16384) offs]

/-- The loop makes 32 rounds. -/
theorem trips_eq : k1_t1_loop.trips = 32 := by decide +kernel

/-- What the work buffer reads after `k` rounds: the selection step applied `k` times to what it read at the start. -/
theorem after_rounds (𝒱 : Variants) (c : Dev nD) (bd : Option 𝒱.V)
    (arg0 : Memref sig .tc .vmem S32x16384 .f32) (harg0 : arg0.IsWhole)
    (arg1 : Memref sig .tc .vmem S32x16384 .f32) (harg1 : arg1.IsWhole)
    (arg2 : Memref sig .tc .vmem S32x16384 .f32) (harg2 : arg2.IsWhole)
    (f : BufTy.Contents (Elt F) arg2.view.ty) (k : ℕ) (hk : k ≤ k1_t1_loop.trips) :
    arg2.view.read (Elt F) (arg2.view.writes (Elt F) f
        (pb_k1_t1 (F := F) 𝒱 c bd arg0 harg0 arg1 harg1 arg2 harg2 f k))
      = (k1_pay2 (F := F))^[k] (arg2.view.read (Elt F) f) := by
  induction k with
  | zero => rfl
  | succ k ih =>
    rw [pb_k1_t1_succ (F := F) 𝒱 c bd arg0 harg0 arg1 harg1 arg2 harg2 f ⟨k, hk⟩, trip_pieces,
      Function.iterate_succ_apply', ← ih (Nat.le_of_succ_le hk)]
    exact read_last ..

/-- What the second call's step leaves in its output block, from its input block. -/
theorem out_rounds (c : Dev nD)
    (arg0 : Memref sig .tc .vmem S32x16384 .f32) (harg0 : arg0.IsWhole)
    (arg1 : Memref sig .tc .vmem S32x16384 .f32) (harg1 : arg1.IsWhole)
    (arg2 : Memref sig .tc .vmem S32x16384 .f32) (harg2 : arg2.IsWhole) (x : Vec F S32x16384 .f32) :
    out1_A_1 c arg0 harg0 arg1 harg1 arg2 harg2 x = k1_pay3 ((k1_pay2 (F := F))^[32] x) x := by
  unfold out1_A_1
  rw [View.read_writes_eq_canon _ _ _ (cover1_A_1 c arg0 harg0 arg1 harg1 arg2 harg2 x)]
  unfold kernelRun1_A
  dsimp only
  sl_unfold_words
  rw [View.canon_cons_unit_zero (S := S32x16384) offs]
  simp only [View.readAt_eq_ld, View.ld_unit_zero (S := S32x16384) offs, harg0.read_unread]
  unfold View.readCov
  rw [View.writes_append, View.readAt_eq_ld, View.ld_unit_zero (S := S32x16384) offs]
  rw [after_rounds (F := F) _ c _ arg0 harg0 arg1 harg1 arg2 harg2 _ _ (le_refl _), read_last]
  unfold k1_pay1
  simp only [shapeCast_self]
  rw [trips_eq]

end Cert.KernelIdeal.Rounds

end
-- ==== Proof.Keep.lean ====
/- The second kernel call, read: its one step takes the whole array of activations and leaves the array in which every row
   keeps its 32 foremost entries and is zero elsewhere. -/
module

public import proofs.«01_k».proof.Proof.Rounds
public import proofs.«01_k».proof.Proof.Payload

@[expose] public section

noncomputable section

namespace Cert.KernelIdeal.Keep

open Cert.KernelIdeal Cert.KernelIdeal.Gen
open Idealize.ShloMosaic Idealize.ShloMosaic.TcCoe Idealize.SL Idealize.SL.Sem
open Idealize.ShloMosaic.Pipeline (Dat)

/-- Both windows hold the whole of their arrays. -/
theorem index_facts : ∀ t : Fin cfg1.N, (win1_0.index t 0 = 0 ∧ win1_0.index t 1 = 0) ∧ (win1_1.index t 0 = 0 ∧ win1_1.index t 1 = 0) :=
  fun _ => ⟨⟨rfl, rfl⟩, rfl, rfl⟩

variable (V : (c : Dev nD) → (b : Ref sig .tc) → Buf (Elt Ideal) ((c : Thread nD τ).loc b))

/-- The one step reads the whole array of activations. -/
theorem input_block (c : Dev nD) (t : Fin cfg1.N) : iblk1 V c 0 t = V c main_v1 := by
  obtain ⟨⟨h0, h1⟩, -⟩ := index_facts t
  unfold iblk1
  funext q
  rw [View.read_apply]
  show V c main_v1 _ = V c main_v1 _
  congr 1; funext a; apply Fin.ext
  match a with
  | ⟨0, _⟩ => show win1_0.index t 0 * 32 + 1 * (q 0).val = (q 0).val; rw [h0]; omega
  | ⟨1, _⟩ => show win1_0.index t 1 * 16384 + 1 * (q 1).val = (q 1).val; rw [h1]; omega

/-- What the array holds at the end, from the array of activations. -/
def kept (x : FVec Ideal S32x16384 .f32) : FVec Ideal S32x16384 .f32 := k1_pay3 ((k1_pay2 (F := Ideal))^[32] x) x

/-- Read through the output's one block, an array is itself. -/
theorem read_block (t : Fin cfg1.N) (g : FVec Ideal S32x16384 .f32) :
    (cfg1.win 1).cut (grid1.coords t) g = ((cfg1.win 1).blk t).view.read (Elt Ideal) g := by
  obtain ⟨-, ⟨h0, h1⟩⟩ := index_facts t
  funext q
  rw [View.read_apply]
  show g _ = g _
  congr 1; funext a; apply Fin.ext
  match a with
  | ⟨0, _⟩ => show (q 0).val = win1_1.index t 0 * 32 + 1 * (q 0).val; rw [h0]; omega
  | ⟨1, _⟩ => show (q 1).val = win1_1.index t 1 * 16384 + 1 * (q 1).val; rw [h1]; omega

/-- The one write-back writes that array. -/
theorem flushed_eq (c : Dev nD) (t : Fin cfg1.N) :
    (dat1 V c).flushed 1 t = ((cfg1.win 1).blk t).view.read (Elt Ideal) (kept (V c main_v1)) := by
  show (cfg1.win 1).cut (grid1.coords t) ((dat1 V c).after 1 t) = _
  rw [after1_1]
  unfold outsAt1
  rw [Rounds.out_rounds, input_block]
  exact read_block t (kept (V c main_v1))

/-- The call leaves the array so. -/
theorem array_eq (c : Dev nD) : (dat1 V c).arrAt 1 cfg1.N = kept (V c main_v1) :=
  (dat1 V c).arrAt_eq_of_cover 1 _ (fun t _ => flushed_eq V c t) fun q => by
    have q0 : (q 0 : Nat) < 32 := (q 0).isLt
    have q1 : (q 1 : Nat) < 16384 := (q 1).isLt
    let t : Fin cfg1.N := ⟨0, Nat.lt_of_lt_of_eq Nat.one_pos N_1.symm⟩
    refine ⟨t, flush1_1 t, ?_⟩
    obtain ⟨-, ⟨h0, h1⟩⟩ := index_facts t
    show q ∈ ((View.whole main_v2).slice (win1_1.rect t)).set
    rw [View.set_slice_whole, Rect.mem_set_unit]
    intro a
    match a with
    | ⟨0, _⟩ => show win1_1.index t 0 * 32 ≤ (q 0 : Nat) ∧ (q 0 : Nat) < win1_1.index t 0 * 32 + 32; rw [h0]; omega
    | ⟨1, _⟩ => show win1_1.index t 1 * 16384 ≤ (q 1 : Nat) ∧ (q 1 : Nat) < win1_1.index t 1 * 16384 + 16384; rw [h1]; omega

end Cert.KernelIdeal.Keep

end
-- ==== Proof.Decode.lean ====
/- The third kernel call, read: its array starts from the bias, and each of the 16 steps adds the product over 1024 of the
   latents; the sum over the steps is the sum over all latents. -/
module

public import proofs.«01_k».proof.Proof.Payload
public import proofs.«01_k».proof.Proof.Plain
public import Idealize.ShloMosaic.Lib.Pipeline.Value
public import Idealize.ShloMosaic.Lib.Tactic

@[expose] public section

noncomputable section

namespace Cert.KernelIdeal.Decode

open Cert.KernelIdeal Cert.KernelIdeal.Gen
open Idealize.ShloMosaic Idealize.ShloMosaic.TcCoe Idealize.SL Idealize.SL.Sem
open Idealize.ShloMosaic.Pipeline (Dat)

/-- The two zero offsets of a whole-buffer access. -/
theorem offs : (![0, 0] : Fin 2 → Nat) = fun _ => 0 := funext fun a => by fin_cases a <;> rfl

/-! ## What one step leaves in the output's buffer -/

section Step
variable {F : FTy → Type} [FloatOps F]
variable (c : Dev nD) (i : grid2.Coords) (a1 : Memref sig .tc .vmem S32x1024 .f32) (h1 : a1.IsWhole)
  (a2 : Memref sig .tc .vmem S2048x1024 .f32) (h2 : a2.IsWhole) (a3 : Memref sig .tc .vmem S1x2048 .f32) (h3 : a3.IsWhole)
  (a4 : Memref sig .tc .vmem S32x2048 .f32) (h4 : a4.IsWhole)

/-- The first step: the bias, then the first partial product added to it. -/
theorem first_step (hc : cond2_0 i) (x0 : Vec F S32x1024 .f32) (x1 : Vec F S2048x1024 .f32) (x2 : Vec F S1x2048 .f32) :
    out2_A_3 c i a1 h1 a2 h2 a3 h3 a4 h4 hc x0 x1 x2 = k2_pay2 (k2_pay1 x2) x0 x1 := by
  unfold out2_A_3
  rw [View.read_writes_eq_canon _ _ _ (cover2_A_3 c i a1 h1 a2 h2 a3 h3 a4 h4 hc x0 x1 x2)]
  unfold kernelRun2_A
  dsimp only
  sl_unfold_words
  rw [View.canon_cons_unit_zero (S := S32x2048) offs, View.readCov_unit_zero (S := S32x2048) _ offs]
  simp only [View.readAt_eq_ld, h1.read_unread, h2.read_unread, h3.read_unread, View.ld_unit_zero (S := S32x1024) offs,
    View.ld_unit_zero (S := S2048x1024) offs, View.ld_unit_zero (S := S1x2048) offs]

/-- A later step: its partial product added to what the step before left. -/
theorem later_step (hc : ¬ cond2_0 i) (x0 : Vec F S32x1024 .f32) (x1 : Vec F S2048x1024 .f32) (x2 : Vec F S1x2048 .f32)
    (xo : Vec F S32x2048 .f32) :
    out2_B_3 c i a1 h1 a2 h2 a3 h3 a4 h4 hc x0 x1 x2 xo = k2_pay2 xo x0 x1 := by
  unfold out2_B_3
  rw [View.read_writes_eq_canon _ _ _ (cover2_B_3 c i a1 h1 a2 h2 a3 h3 a4 h4 hc x0 x1 x2 xo)]
  unfold kernelRun2_B
  dsimp only
  sl_unfold_words
  rw [View.canon_unit_zero offs]
  simp only [View.readAt_eq_ld, h1.read_unread, h2.read_unread, h4.read_unread, View.ld_unit_zero (S := S32x1024) offs,
    View.ld_unit_zero (S := S2048x1024) offs, View.ld_unit_zero (S := S32x2048) offs]

end Step

/-! ## The blocks the steps read -/

/-- Which block of its array each window holds at step `t`: of the hidden values and of the weights the `t`-th group of
    columns, of the bias and of the output always the whole. -/
theorem index_facts : ∀ t : Fin cfg2.N, (win2_0.index t 0 = 0 ∧ win2_0.index t 1 = t.val) ∧ (win2_1.index t 0 = 0 ∧ win2_1.index t 1 = t.val)
    ∧ (win2_2.index t 0 = 0 ∧ win2_2.index t 1 = 0) ∧ (win2_3.index t 0 = 0 ∧ win2_3.index t 1 = 0) := by
  decide +kernel

variable (V : (c : Dev nD) → (b : Ref sig .tc) → Buf (Elt Ideal) ((c : Thread nD τ).loc b))

/-- The call makes 16 steps. -/
theorem steps (t : Fin cfg2.N) : t.val < 16 := Nat.lt_of_lt_of_eq t.isLt N_2

/-- The latent that column `k` of step `n`'s blocks is (modulo their number, so that every `n` has a value). -/
def latent (n : ℕ) (k : Fin 1024) : Fin 16384 := ⟨(1024 * n + k.val) % 16384, Nat.mod_lt _ (by omega)⟩

/-- The block of hidden values a step reads: its 1024 columns of the array. -/
theorem hidden_block (c : Dev nD) (t : Fin cfg2.N) (i : Fin 32) (k : Fin 1024) :
    iblk2 V c 0 t (ix2 i k) = V c main_v2 (ix2 i (latent t.val k)) := by
  obtain ⟨⟨h0, h1⟩, -⟩ := index_facts t
  have ht := steps t
  unfold iblk2
  rw [View.read_apply]
  show V c main_v2 _ = V c main_v2 _
  congr 1; funext a; apply Fin.ext
  match a with
  | ⟨0, _⟩ => show win2_0.index t 0 * 32 + 1 * i.val = i.val; rw [h0]; omega
  | ⟨1, _⟩ => show win2_0.index t 1 * 1024 + 1 * k.val = (1024 * t.val + k.val) % 16384; rw [h1]; omega

/-- The block of weights a step reads: its 1024 columns of the array. -/
theorem weight_block (c : Dev nD) (t : Fin cfg2.N) (d : Fin 2048) (k : Fin 1024) :
    iblk2 V c 1 t (ix2 d k) = V c main_arg3 (ix2 d (latent t.val k)) := by
  obtain ⟨-, ⟨h0, h1⟩, -⟩ := index_facts t
  have ht := steps t
  unfold iblk2
  rw [View.read_apply]
  show V c main_arg3 _ = V c main_arg3 _
  congr 1; funext a; apply Fin.ext
  match a with
  | ⟨0, _⟩ => show win2_1.index t 0 * 2048 + 1 * d.val = d.val; rw [h0]; omega
  | ⟨1, _⟩ => show win2_1.index t 1 * 1024 + 1 * k.val = (1024 * t.val + k.val) % 16384; rw [h1]; omega

/-- The bias block every step reads: the whole bias. -/
theorem bias_block (c : Dev nD) (t : Fin cfg2.N) (d : Fin 2048) :
    iblk2 V c 2 t (ix2 0 d) = V c main_v3 (ix2 0 d) := by
  obtain ⟨-, -, ⟨h0, h1⟩, -⟩ := index_facts t
  unfold iblk2
  rw [View.read_apply]
  show V c main_v3 _ = V c main_v3 _
  congr 1; funext a; apply Fin.ext
  match a with
  | ⟨0, _⟩ => show win2_2.index t 0 * 1 + 1 * 0 = 0; rw [h0]
  | ⟨1, _⟩ => show win2_2.index t 1 * 2048 + 1 * d.val = d.val; rw [h1]; omega

/-! ## The running sum -/

/-- The product over the latents of step `n`. -/
def part (h : FVec Ideal S32x16384 .f32) (w : FVec Ideal S2048x16384 .f32) (i : Fin 32) (d : Fin 2048) (n : ℕ) : EReal :=
  ∑ k : Fin 1024, h (ix2 i (latent n k)) * w (ix2 d (latent n k))

/-- The bias plus the products of the first `n` steps. -/
def upto (h : FVec Ideal S32x16384 .f32) (w : FVec Ideal S2048x16384 .f32) (b : FVec Ideal S1x2048 .f32) (i : Fin 32)
    (d : Fin 2048) (n : ℕ) : EReal :=
  b (ix2 0 d) + ∑ s ∈ Finset.range n, part h w i d s

/-- After step `n` an entry is the bias plus the products of the steps so far. -/
theorem running (c : Dev nD) (i : Fin 32) (d : Fin 2048) : ∀ (n : ℕ) (hn : n < cfg2.N),
    outsAt2 V c n hn (ix2 i d)
      = upto (V c main_v2) (V c main_arg3) (V c main_v3) i d (n + 1)
  | 0, hn => by
    rw [outsAt2_A V c ⟨0, hn⟩ rfl, first_step, Payload.decode_apply, Payload.bias_apply, bias_block]
    simp only [hidden_block, weight_block]
    unfold upto
    rw [Finset.sum_range_one]; rfl
  | n + 1, hn => by
    have hB : ¬ (⟨n + 1, hn⟩ : Fin cfg2.N).val % 16 = 0 := by
      have := steps ⟨n + 1, hn⟩; dsimp only at this ⊢; omega
    rw [outsAt2_B V c ⟨n + 1, hn⟩ hB, later_step, Payload.decode_apply]
    simp only [hidden_block, weight_block]
    have ih := running c i d n (Nat.lt_of_succ_lt hn)
    show outsAt2 V c n _ (ix2 i d) + _ = _
    rw [ih]
    unfold upto
    rw [Finset.sum_range_succ _ (n + 1), ← add_assoc]; rfl

/-- The products of the 16 steps add up to the product over all latents. -/
theorem sum_parts (h : FVec Ideal S32x16384 .f32) (w : FVec Ideal S2048x16384 .f32) (i : Fin 32) (d : Fin 2048) :
    ∑ s ∈ Finset.range 16, part h w i d s = ∑ j : Fin 16384, h (ix2 i j) * w (ix2 d j) := by
  rw [Finset.sum_range]
  unfold part
  rw [← Finset.sum_product', Finset.univ_product_univ]
  refine Fintype.sum_equiv (finProdFinEquiv (m := 16) (n := 1024)) _ _ fun p => ?_
  have e : latent p.1.val p.2 = (finProdFinEquiv (m := 16) (n := 1024) p : Fin (16 * 1024)) := Fin.ext (by
    have h1 := p.1.isLt
    have h2 := p.2.isLt
    show (1024 * p.1.val + p.2.val) % 16384 = p.2.val + 1024 * p.1.val
    omega)
  rw [e]

/-- What the array holds at the end, from what the call finds in its three inputs. -/
def recon (h : FVec Ideal S32x16384 .f32) (w : FVec Ideal S2048x16384 .f32) (b : FVec Ideal S1x2048 .f32) :
    FVec Ideal S32x2048 .f32 :=
  fun q => b (ix2 0 (q 1)) + ∑ j : Fin 16384, h (ix2 (q 0) j) * w (ix2 (q 1) j)

/-- The write-back, after the last step, writes that array. -/
theorem flushed_eq (c : Dev nD) (t : Fin cfg2.N) (hf : (cfg2.win 3).flush t = true) :
    (dat2 V c).flushed 3 t
      = ((cfg2.win 3).blk t).view.read (Elt Ideal) (recon (V c main_v2) (V c main_arg3) (V c main_v3)) := by
  obtain ⟨-, -, -, ⟨h0, h1⟩⟩ := index_facts t
  have ht : t.val = 15 := by have := (flush2_3 t).mp hf; have := steps t; omega
  show (cfg2.win 3).cut (grid2.coords t) ((dat2 V c).after 3 t) = _
  rw [after2_3]
  funext q
  obtain ⟨i, d, rfl⟩ : ∃ (i : Fin 32) (d : Fin 2048), q = ix2 i d := ⟨q 0, q 1, eq_ix2 q⟩
  refine (running V c i d t.val t.isLt).trans ?_
  rw [View.read_apply, ht]
  unfold upto
  rw [sum_parts]
  show recon (V c main_v2) (V c main_arg3) (V c main_v3) (ix2 i d) = recon _ _ _ _
  congr 1; funext a; apply Fin.ext
  match a with
  | ⟨0, _⟩ => show i.val = win2_3.index t 0 * 32 + 1 * i.val; rw [h0]; omega
  | ⟨1, _⟩ => show d.val = win2_3.index t 1 * 2048 + 1 * d.val; rw [h1]; omega

/-- The call leaves the array so. -/
theorem array_eq (c : Dev nD) :
    (dat2 V c).arrAt 3 cfg2.N = recon (V c main_v2) (V c main_arg3) (V c main_v3) :=
  (dat2 V c).arrAt_eq_of_cover 3 _ (fun t hf => flushed_eq V c t hf) fun q => by
    have q0 : (q 0 : Nat) < 32 := (q 0).isLt
    have q1 : (q 1 : Nat) < 2048 := (q 1).isLt
    let t : Fin cfg2.N := ⟨15, Nat.lt_of_lt_of_eq (by omega) N_2.symm⟩
    refine ⟨t, (flush2_3 t).mpr rfl, ?_⟩
    obtain ⟨-, -, -, ⟨h0, h1⟩⟩ := index_facts t
    show q ∈ ((View.whole main_v4).slice (win2_3.rect t)).set
    rw [View.set_slice_whole, Rect.mem_set_unit]
    intro a
    match a with
    | ⟨0, _⟩ => show win2_3.index t 0 * 32 ≤ (q 0 : Nat) ∧ (q 0 : Nat) < win2_3.index t 0 * 32 + 32; rw [h0]; omega
    | ⟨1, _⟩ => show win2_3.index t 1 * 2048 ≤ (q 1 : Nat) ∧ (q 1 : Nat) < win2_3.index t 1 * 2048 + 2048; rw [h1]; omega

end Cert.KernelIdeal.Decode

end
-- ==== Proof.KernelValue.lean ====
/- The kernel program's two results, read: what the three calls leave, each entered with what the ones before left. -/
module

public import proofs.«01_k».proof.Proof.Encode
public import proofs.«01_k».proof.Proof.Keep
public import proofs.«01_k».proof.Proof.Decode

@[expose] public section

noncomputable section

namespace Cert.KernelIdeal.Read

open Cert.KernelIdeal Cert.KernelIdeal.Gen
open Idealize.ShloMosaic Idealize.ShloMosaic.TcCoe Idealize.SL Idealize.SL.Sem

variable (m : (ℓ : Loc nD τ sig) → Buf (Elt Ideal) ℓ) (ρ : Dev nD → PrngReg) (c : Dev nD)

/-- A bias given a row axis, at an element (the encoder's length). -/
theorem cast_enc (b : FVec Ideal S16384 .f32) (j : Fin 16384) :
    shapeCast S1x16384 b shapeCasts_S16384_S1x16384 (ix2 0 j) = b (ix1 j) := by
  pointwise

/-- A bias given a row axis, at an element (the decoder's length). -/
theorem cast_dec (b : FVec Ideal S2048 .f32) (d : Fin 2048) :
    shapeCast S1x2048 b shapeCasts_S2048_S1x2048 (ix2 0 d) = b (ix1 d) := by
  pointwise

/-- The encoder's bias, as the first call finds it: the argument, given a row axis. -/
theorem enc_bias (j : Fin 16384) :
    (W1 m ρ c (Proc.devRef .tc main_v0) : FVec Ideal S1x16384 .f32) (ix2 0 j)
      = (m ((c : Thread nD τ).loc main_arg2) : FVec Ideal S16384 .f32) (ix1 j) := by
  have h : (W1 m ρ c (Proc.devRef .tc main_v0) : FVec Ideal S1x16384 .f32)
      = shapeCast S1x16384 (m ((c : Thread nD τ).loc main_arg2) : FVec Ideal S16384 .f32) shapeCasts_S16384_S1x16384 := by
    show StableHlo.after hostOps0 (W0 m ρ c) (Proc.devRef .tc main_v0) = _
    after_results
    rfl
  rw [h]
  exact cast_enc _ j

/-- The decoder's bias, as the third call finds it: the argument, given a row axis. -/
theorem dec_bias (d : Fin 2048) :
    (W4 m ρ c (Proc.devRef .tc main_v3) : FVec Ideal S1x2048 .f32) (ix2 0 d)
      = (m ((c : Thread nD τ).loc main_arg4) : FVec Ideal S2048 .f32) (ix1 d) := by
  have h : (W4 m ρ c (Proc.devRef .tc main_v3) : FVec Ideal S1x2048 .f32)
      = shapeCast S1x2048 (W3 m ρ c (Proc.devRef .tc main_arg4) : FVec Ideal S2048 .f32) shapeCasts_S2048_S1x2048 := by
    show StableHlo.after hostOps2 (W3 m ρ c) (Proc.devRef .tc main_v3) = _
    after_results
    rfl
  rw [h, W3_args m ρ c main_arg4 (by decide)]
  exact cast_dec _ d

/-- The array the first call leaves: the activations. -/
theorem acts_eq (i : Fin 32) (j : Fin 16384) :
    (W2 m ρ c (Proc.devRef .tc main_v1) : FVec Ideal S32x16384 .f32) (ix2 i j)
      = Plain.activation (m ((c : Thread nD τ).loc main_arg0)) (m ((c : Thread nD τ).loc main_arg1))
          (m ((c : Thread nD τ).loc main_arg2)) i j := by
  have h : (W2 m ρ c (Proc.devRef .tc main_v1) : FVec Ideal S32x16384 .f32)
      = Encode.acts (V1 m ρ c main_arg0) (V1 m ρ c main_arg1) (V1 m ρ c main_v0) :=
    (W2_arr m ρ c 3).trans (Encode.array_eq (V1 m ρ) c)
  have h0 : V1 m ρ c main_arg0 = m ((c : Thread nD τ).loc main_arg0) := W1_args m ρ c main_arg0 (by decide)
  have h1 : V1 m ρ c main_arg1 = m ((c : Thread nD τ).loc main_arg1) := W1_args m ρ c main_arg1 (by decide)
  rw [h, h0, h1]
  exact congrArg (fun z : EReal => max (_ + z) (0 : EReal)) (enc_bias m ρ c j)

/-- The array the second call leaves: the hidden values. -/
theorem kept_eq (i : Fin 32) (j : Fin 16384) :
    (W3 m ρ c (Proc.devRef .tc main_v2) : FVec Ideal S32x16384 .f32) (ix2 i j)
      = Plain.hidden (m ((c : Thread nD τ).loc main_arg0)) (m ((c : Thread nD τ).loc main_arg1))
          (m ((c : Thread nD τ).loc main_arg2)) i j := by
  have h : (W3 m ρ c (Proc.devRef .tc main_v2) : FVec Ideal S32x16384 .f32)
      = Keep.kept (W2 m ρ c (Proc.devRef .tc main_v1)) := (W3_arr m ρ c 1).trans (Keep.array_eq (V2 m ρ) c)
  have hr : ∀ i, Payload.row (W2 m ρ c (Proc.devRef .tc main_v1)) i = Plain.activation (m ((c : Thread nD τ).loc main_arg0))
      (m ((c : Thread nD τ).loc main_arg1)) (m ((c : Thread nD τ).loc main_arg2)) i := fun i =>
    funext fun j => acts_eq m ρ c i j
  rw [h]
  unfold Keep.kept
  rw [Payload.kept_apply _ (fun i j => by rw [hr]; exact Plain.activation_ne_bot _ _ _ _ _), hr, acts_eq]
  rfl

/-- The first result at the end: the hidden values. -/
theorem hidden_eq : (W5 m ρ c (Proc.devRef .tc main_v2) : FVec Ideal S32x16384 .f32) = fun q =>
    Plain.hidden (m ((c : Thread nD τ).loc main_arg0)) (m ((c : Thread nD τ).loc main_arg1))
      (m ((c : Thread nD τ).loc main_arg2)) (q 0) (q 1) := by
  rw [W5_of m ρ c main_v2 (by decide), W4_of m ρ c main_v2 (by decide)]
  funext q
  obtain ⟨i, j, rfl⟩ : ∃ (i : Fin 32) (j : Fin 16384), q = ix2 i j := ⟨q 0, q 1, eq_ix2 q⟩
  exact kept_eq m ρ c i j

/-- The second result at the end: the reconstruction. -/
theorem recon_eq : (W5 m ρ c (Proc.devRef .tc main_v4) : FVec Ideal S32x2048 .f32) = fun q =>
    Plain.reconstruction (Plain.hidden (m ((c : Thread nD τ).loc main_arg0)) (m ((c : Thread nD τ).loc main_arg1))
      (m ((c : Thread nD τ).loc main_arg2))) (m ((c : Thread nD τ).loc main_arg3)) (m ((c : Thread nD τ).loc main_arg4))
      (q 0) (q 1) := by
  have h : (W5 m ρ c (Proc.devRef .tc main_v4) : FVec Ideal S32x2048 .f32)
      = Decode.recon (V4 m ρ c main_v2) (V4 m ρ c main_arg3) (V4 m ρ c main_v3) :=
    (W5_arr m ρ c 3).trans (Decode.array_eq (V4 m ρ) c)
  have h2 : V4 m ρ c main_v2 = W3 m ρ c (Proc.devRef .tc main_v2) := W4_of m ρ c main_v2 (by decide)
  have h3 : V4 m ρ c main_arg3 = m ((c : Thread nD τ).loc main_arg3) := W4_args m ρ c main_arg3 (by decide)
  rw [h, h2, h3]
  funext q
  obtain ⟨i, d, rfl⟩ : ∃ (i : Fin 32) (d : Fin 2048), q = ix2 i d := ⟨q 0, q 1, eq_ix2 q⟩
  unfold Decode.recon Plain.reconstruction
  rw [add_comm]
  refine congrArg₂ (· + ·) (Finset.sum_congr rfl fun j _ => ?_) (dec_bias m ρ c d)
  exact congrArg (· * _) (kept_eq m ρ c i j)

end Cert.KernelIdeal.Read

end
-- ==== Proof.RefValue.lean ====
/- The reference's two results, read one entry at a time over the extended reals. -/
module

public import proofs.«01_k».proof.Proof.Gen.ReferenceIdeal.Run
public import proofs.«01_k».proof.Proof.Plain
public import Idealize.ShloMosaic.Lib.Routing.OpsPair
public import Idealize.ShloMosaic.Lib.Routing.OpsSet

@[expose] public section

noncomputable section

namespace Cert.ReferenceIdeal.Read

open Cert.ReferenceIdeal Cert.ReferenceIdeal.Gen
open Idealize.ShloMosaic Idealize.SL.Sem
open Idealize.ShloMosaic.Routing (wrap_of_lt scatter_lands2 scatter_set_hit scatter_set_miss)

/-! ## The three tensors before and after the selection -/

/-- The reference's activations, before the selection. -/
def acts (x : FVec Ideal S32x2048 .f32) (w : FVec Ideal S16384x2048 .f32) (b : FVec Ideal S16384 .f32) :
    FVec Ideal S32x16384 .f32 :=
  maximumf (addf (Host.dotGeneral dot_S32x2048_S2048x16384_S32x16384_1_0_0_1_n_n none x
        (transpose S2048x16384 [1, 0] w transposes_S16384x2048_S2048x16384_1_0))
      (broadcastInDim S32x16384 ![0, 1] bcast_S1x16384_S32x16384_0_1 (broadcastInDim S1x16384 ![1] bcast_S16384_S1x16384_1 b)))
    (broadcastInDim S32x16384 ![] bcast_S_S32x16384 (constant S_ .f32 0x00000000#32))

/-- An entry of them: a row of the input times a row of the weights, plus the bias, no less than zero. -/
theorem acts_apply (x : FVec Ideal S32x2048 .f32) (w : FVec Ideal S16384x2048 .f32) (b : FVec Ideal S16384 .f32)
    (i : Fin 32) (j : Fin 16384) : acts x w b (ix2 i j) = Plain.activation x w b i j := by
  unfold Plain.activation
  pointwise [acts]

/-- The positions of the 32 greatest entries of each row. -/
def tops (a : FVec Ideal S32x16384 .f32) : IVec S32x32 32 :=
  (Host.topK S32x32 1 (FloatOps.cmpfTotal .gt) a sliceFits_S32x16384_S32x32).2

/-- They are the first 32 positions of the row in a stable sort, greatest first. -/
theorem tops_apply (a : FVec Ideal S32x16384 .f32) (i : Fin 32) (k : Fin 32) :
    tops a (ix2 i k)
      = BitVec.ofNat 32 (sortedFrom (Select.greater fun c : Fin 16384 => a (ix2 i c)) (k.castLE (by omega)) : ℕ) := by
  have hsl : extractStridedSlice (s := S32x16384) S32x32 (fun _ => 0)
      (fun j : S32x16384.Idx => j) sliceFits_S32x16384_S32x32 (ix2 i k) = ix2 i (k.castLE (by omega)) := by
    funext a
    match a with
    | ⟨0, _⟩ => exact Fin.ext (Nat.zero_add _)
    | ⟨1, _⟩ => exact Fin.ext (Nat.zero_add _)
  have hal : ∀ c : Fin 16384, Shape.Idx.along (s := S32x16384) (ix2 i (k.castLE (by omega))) 1 c = ix2 i c := fun c => by
    funext a
    match a with
    | ⟨0, _⟩ => rfl
    | ⟨1, _⟩ => rfl
  have hcmp : ∀ x y : EReal, (FloatOps.cmpfTotal (F := Ideal) (φ := .f32) .gt x y == 1#1) = decide (y < x) := fun x y => by
    rw [Ideal.cmpfTotal_def]
    by_cases h : y < x <;> simp [Ideal.cmp, CmpDirection.ordered, h]
  have e : tops a (ix2 i k) = (Host.sort2 S32x16384 1 (fun l r => FloatOps.cmpfTotal (F := Ideal) (φ := .f32) .gt l.1 r.1) a
      (iotaInDim S32x16384 32 1)).2 (ix2 i (k.castLE (by omega))) := by
    rw [← hsl]; rfl
  rw [e]
  unfold Host.sort2
  rw [dif_pos (by decide)]
  have hb : (fun c c' : Fin 16384 => (FloatOps.cmpfTotal (F := Ideal) (φ := .f32) .gt
        (a (Shape.Idx.along (s := S32x16384) (ix2 i (k.castLE (by omega))) 1 c))
        (a (Shape.Idx.along (s := S32x16384) (ix2 i (k.castLE (by omega))) 1 c')) == 1#1))
      = Select.greater fun c : Fin 16384 => a (ix2 i c) := funext fun c => funext fun c' => by
    rw [hcmp, hal, hal]; rfl
  have key : ∀ (f g : Fin 16384 → Fin 16384 → Bool) (q : Fin 16384), f = g →
      BitVec.ofNat 32 (Shape.Idx.along (s := S32x16384) (ix2 i q) 1 (sortedFrom (n := 16384) f q) 1).val
        = BitVec.ofNat 32 (sortedFrom g q).val := fun f g q h => by
    subst h
    generalize sortedFrom f q = p
    exact congrArg (fun z : S32x16384.Coord 1 => BitVec.ofNat 32 (Fin.val z)) (Function.update_self ..)
  exact key _ _ _ hb

/-- The index pairs the mask is written at: the row's number and the position. -/
def pairs (t : IVec S32x32 32) : IVec S32x32x2 32 :=
  concatenate S32x32x2 2
    [⟨S32x32x1, broadcastInDim S32x32x1 ![0, 1] bcast_S32x32_S32x32x1_0_1
        (broadcastInDim S32x32 ![0, 1] bcast_S32x1_S32x32_0_1
          (select (cmpi .slt (broadcastInDim S32x1 ![0] bcast_S32_S32x1_0 (iotaInDim S32 32 0))
              (broadcastInDim S32x1 ![] bcast_S_S32x1 (constantI S_ 32 0#32)))
            (addi (broadcastInDim S32x1 ![0] bcast_S32_S32x1_0 (iotaInDim S32 32 0))
              (broadcastInDim S32x1 ![] bcast_S_S32x1 (constantI S_ 32 32#32)))
            (broadcastInDim S32x1 ![0] bcast_S32_S32x1_0 (iotaInDim S32 32 0))))⟩,
      ⟨S32x32x1, broadcastInDim S32x32x1 ![0, 1] bcast_S32x32_S32x32x1_0_1
        (select (cmpi .slt t (broadcastInDim S32x32 ![] bcast_S_S32x32 (constantI S_ 32 0#32)))
          (addi t (broadcastInDim S32x32 ![] bcast_S_S32x32 (constantI S_ 32 16384#32))) t)⟩]
    concatenates_S32x32x1_S32x32x1_S32x32x2_d2

/-- The first number of a pair is its row. -/
theorem pairs_row (t : IVec S32x32 32) (i k : Fin 32) : pairs t (ix3 i k 0) = BitVec.ofNat 32 (i : ℕ) := by
  pointwise [pairs]
  exact wrap_of_lt _ _ (by rw [BitVec.toNat_ofNat]; have := i.isLt; omega)

/-- The second number of a pair is the position selected, which is not negative. -/
theorem pairs_col (t : IVec S32x32 32) (i k : Fin 32) (h : (t (ix2 i k)).toNat < 2 ^ 31) :
    pairs t (ix3 i k 1) = t (ix2 i k) := by
  pointwise [pairs]
  exact wrap_of_lt _ _ h

/-- The word `0x3F800000` is one. -/
theorem word_one : Ideal.ofBits .f32 0x3F800000#32 = 1 := by
  simp [Ideal.ofBits, Ideal.ieee, -EReal.coe_mul]; norm_num

/-- The mask: one at the written positions, zero elsewhere. -/
def mask (a : FVec Ideal S32x16384 .f32) : FVec Ideal S32x16384 .f32 :=
  Host.scatter scatter_S32x16384_S32x32x2_S32x32_n_01_01_2 (fun _ b => b)
    (broadcastInDim S32x16384 ![] bcast_S_S32x16384 (constant S_ .f32 0x00000000#32)) (pairs (tops a))
    (broadcastInDim S32x32 ![] bcast_S_S32x32 (constant S_ .f32 0x3F800000#32))

/-- The mask is one at the positions with fewer than 32 others ahead in their row, and zero elsewhere. -/
theorem mask_apply (a : FVec Ideal S32x16384 .f32) (i : Fin 32) (j : Fin 16384) :
    mask a (ix2 i j) = if Select.place (fun c : Fin 16384 => a (ix2 i c)) j < 32 then (1 : EReal) else 0 := by
  have hlt : ∀ r k : Fin 32, (tops a (ix2 r k)).toNat < 2 ^ 31 := fun r k => by
    rw [tops_apply, BitVec.toNat_ofNat]
    have := (sortedFrom (Select.greater fun c : Fin 16384 => a (ix2 r c)) (k.castLE (by omega))).isLt
    omega
  have hl : ∀ r k : Fin 32, scatter_S32x16384_S32x32x2_S32x32_n_01_01_2.resultIdx? (ix2 r k) (pairs (tops a)) = some (ix2 i j)
      ↔ r = i ∧ sortedFrom (Select.greater fun c : Fin 16384 => a (ix2 r c)) (k.castLE (by omega)) = j := fun r k => by
    rw [ix2_eq_valueIdx, ix2_eq_valueIdx, scatter_lands2 _ rfl rfl rfl, ← ix3_eq_valueIdx, ← ix3_eq_valueIdx,
      pairs_row, pairs_col _ _ _ (hlt r k), tops_apply]
    have hr := r.isLt
    have hs := (sortedFrom (Select.greater fun c : Fin 16384 => a (ix2 r c)) (k.castLE (by omega))).isLt
    have hi : ∀ n : ℕ, n < 2 ^ 31 → (BitVec.ofNat 32 n).toInt = (n : ℤ) := fun n hn => by
      rw [BitVec.toInt_eq_toNat_of_lt] <;> rw [BitVec.toNat_ofNat] <;> omega
    rw [hi _ (by omega), hi _ (by omega), Fin.ext_iff, Fin.ext_iff]
    exact and_congr Int.natCast_inj Int.natCast_inj
  have hm := Select.mem_sorted_iff (fun c : Fin 16384 => a (ix2 i c)) 32 (by omega) j
  by_cases h : Select.place (fun c : Fin 16384 => a (ix2 i c)) j < 32
  · obtain ⟨k, hk⟩ := hm.2 h
    rw [if_pos h]
    exact scatter_set_hit _ _ _ _ _ _ (fun k _ => word_one) (ix2 i k) ((hl i k).2 ⟨rfl, hk⟩)
  · rw [if_neg h]
    refine (scatter_set_miss _ _ _ _ _ fun q hq => h (hm.1 ?_)).trans Ideal.ofBits_zero_f32
    obtain ⟨r, k, rfl⟩ : ∃ r k : Fin 32, q = ix2 r k := ⟨q 0, q 1, eq_ix2 q⟩
    obtain ⟨rfl, hk⟩ := (hl r k).1 hq
    exact ⟨k, hk⟩

/-- The first result: the activations times the mask. -/
theorem hidden_apply (x : FVec Ideal S32x2048 .f32) (w : FVec Ideal S16384x2048 .f32) (b : FVec Ideal S16384 .f32)
    (i : Fin 32) (j : Fin 16384) :
    mulf (acts x w b) (mask (acts x w b)) (ix2 i j) = Plain.hidden x w b i j := by
  have h : (fun c : Fin 16384 => acts x w b (ix2 i c)) = Plain.activation x w b i := funext fun c => acts_apply x w b i c
  show acts x w b (ix2 i j) * mask (acts x w b) (ix2 i j) = _
  rw [mask_apply, h, acts_apply, Plain.hidden]
  split
  · exact mul_one _
  · exact mul_zero _

/-- The second result, from the first: the product with the decoder's weights, plus the bias. -/
theorem reconstruction_apply (h : FVec Ideal S32x16384 .f32) (v : FVec Ideal S2048x16384 .f32) (e : FVec Ideal S2048 .f32)
    (i : Fin 32) (d : Fin 2048) :
    addf (Host.dotGeneral dot_S32x16384_S16384x2048_S32x2048_1_0_0_1_n_n none h
        (transpose S16384x2048 [1, 0] v transposes_S2048x16384_S16384x2048_1_0))
      (broadcastInDim S32x2048 ![0, 1] bcast_S1x2048_S32x2048_0_1 (broadcastInDim S1x2048 ![1] bcast_S2048_S1x2048_1 e))
      (ix2 i d) = Plain.reconstruction (fun i j => h (ix2 i j)) v e i d := by
  unfold Plain.reconstruction
  pointwise

end Cert.ReferenceIdeal.Read

end
-- ==== Proof.Algebraic.lean ====
/- The value claim: both programs leave the hidden values and the reconstruction of `Plain`. -/
module

public import proofs.«01_k».proof.Defs
public import proofs.«01_k».proof.Proof.KernelRun
public import proofs.«01_k».proof.Proof.KernelValue
public import proofs.«01_k».proof.Proof.RefValue
public import proofs.«01_k».proof.Proof.Gen.ReferenceIdeal
public import proofs.«01_k».proof.Proof.Gen.ReferenceIdeal.Run

@[expose] public section

noncomputable section

namespace Cert.ReferenceIdeal.Read

open Cert.ReferenceIdeal Cert.ReferenceIdeal.Gen
open Idealize.ShloMosaic Idealize.ShloMosaic.TcCoe Idealize.SL Idealize.SL.Sem

/-- The reference's hidden array, all of it. -/
theorem hidden_eq (x : FVec Ideal S32x2048 .f32) (w : FVec Ideal S16384x2048 .f32) (b : FVec Ideal S16384 .f32) :
    mulf (acts x w b) (mask (acts x w b)) = fun q => Plain.hidden x w b (q 0) (q 1) := by
  funext q
  obtain ⟨i, j, rfl⟩ : ∃ (i : Fin 32) (j : Fin 16384), q = ix2 i j := ⟨q 0, q 1, eq_ix2 q⟩
  exact hidden_apply x w b i j

/-- The reference's reconstruction of a hidden array whose entries are `f`, all of it. -/
theorem recon_eq (h : FVec Ideal S32x16384 .f32) (v : FVec Ideal S2048x16384 .f32) (e : FVec Ideal S2048 .f32)
    (f : Fin 32 → Fin 16384 → EReal) (hf : h = fun q => f (q 0) (q 1)) :
    addf (Host.dotGeneral dot_S32x16384_S16384x2048_S32x2048_1_0_0_1_n_n none h
        (transpose S16384x2048 [1, 0] v transposes_S2048x16384_S16384x2048_1_0))
      (broadcastInDim S32x2048 ![0, 1] bcast_S1x2048_S32x2048_0_1 (broadcastInDim S1x2048 ![1] bcast_S2048_S1x2048_1 e))
      = fun q => Plain.reconstruction f v e (q 0) (q 1) := by
  subst hf
  funext q
  obtain ⟨i, d, rfl⟩ : ∃ (i : Fin 32) (d : Fin 2048), q = ix2 i d := ⟨q 0, q 1, eq_ix2 q⟩
  exact reconstruction_apply _ v e i d

/-- The reference runs, leaves the hidden values and the reconstruction of its arguments, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (r.2.mem ((c.tc : Thread nD τ).loc main_v25) : FVec Ideal S32x16384 .f32) = (fun q =>
          Plain.hidden (m ((c.tc : Thread nD τ).loc main_arg0)) (m ((c.tc : Thread nD τ).loc main_arg1))
            (m ((c.tc : Thread nD τ).loc main_arg2)) (q 0) (q 1))
      ∧ (r.2.mem ((c.tc : Thread nD τ).loc main_v30) : FVec Ideal S32x2048 .f32) = (fun q =>
          Plain.reconstruction (Plain.hidden (m ((c.tc : Thread nD τ).loc main_arg0)) (m ((c.tc : Thread nD τ).loc main_arg1))
            (m ((c.tc : Thread nD τ).loc main_arg2))) (m ((c.tc : Thread nD τ).loc main_arg3))
            (m ((c.tc : Thread nD τ).loc main_arg4)) (q 0) (q 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.ReferenceIdeal.Value.run (F := Ideal) m ρ)
  obtain ⟨h0, h1, hargs⟩ := h c
  have hid := hidden_eq (m ((c.tc : Thread nD τ).loc main_arg0)) (m ((c.tc : Thread nD τ).loc main_arg1))
      (m ((c.tc : Thread nD τ).loc main_arg2))
  refine ⟨?_, ?_, hargs⟩
  · rw [h0]
    exact hid
  · rw [h1]
    exact recon_eq _ _ _ _ hid

end Cert.ReferenceIdeal.Read

namespace Cert.Proof

open Idealize.ShloMosaic Idealize.ShloMosaic.TcCoe Idealize.SL Idealize.SL.Sem

/-- From memories that agree on the arguments, the two programs end with equal results. -/
theorem algebraic : Cert.algebraic_KernelIdeal_ReferenceIdeal := by
  intro m g m' g' _ hm
  refine ⟨_, _, Cert.KernelIdeal.Launched.run (F := Ideal) m g, ?_⟩
  refine (θ_run Cert.ReferenceIdeal.defs _ _).mono (fun r h c => ?_) (Cert.ReferenceIdeal.Read.run m' g')
  obtain ⟨h0, h1, hargs⟩ := h c
  obtain ⟨e0, e1, e2, e3, e4⟩ := hm c
  refine ⟨h0.trans ?_, h1.trans ?_, hargs⟩
  · rw [e0, e1, e2]
    exact (Cert.KernelIdeal.Read.hidden_eq m g c).symm
  · rw [e0, e1, e2, e3, e4]
    exact (Cert.KernelIdeal.Read.recon_eq m g c).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Algebraic
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference terminates without fault, leaves its arguments as launched, and has no semaphore. -/
theorem frame_ref : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- All five claims: the three programs run and leave their arguments unchanged, and the two values are equal. -/
theorem claim : Cert.Claim := ⟨Cert.Kernel.Gen.facts, Cert.KernelIdeal.Gen.facts, Cert.ReferenceIdeal.Gen.facts,
  ⟨fun m ρ _ => Cert.Kernel.Gen.frame m ρ, fun m ρ _ => Cert.KernelIdeal.Gen.frame m ρ, frame_ref, trivial, algebraic⟩⟩

end Cert.Proof

end
